-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S2 : Shape := ⟨1, ![2]⟩
abbrev S1x256x256 : Shape := ⟨3, ![1, 256, 256]⟩
abbrev S_ : Shape := ⟨0, ![]⟩
abbrev S1 : Shape := ⟨1, ![1]⟩
abbrev S128x256 : Shape := ⟨2, ![128, 256]⟩
abbrev S1x128x256 : Shape := ⟨3, ![1, 128, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x512, .bf16⟩
  | .hbm, ⟨1, _⟩ => ⟨S256x256, .f32⟩
  | .local _ .vmem, ⟨0, _⟩ => ⟨S1x256x512, .bf16⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S1x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0 : Index := 0#32
  let c0_3 : Index := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c256_i32 : BitVec 32 := 256#32
  let v7 : BitVec 32 := Scalar.muli v6 c256_i32
  let v8 : Index := Scalar.indexCast v7
  ![0, 0, v8.toNat]
def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v15 : BitVec 32 := Scalar.muli v2 c2_i32_7
  let v16 : BitVec 32 := Scalar.addi c0_i32 v15
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v17 : BitVec 32 := Scalar.muli v6 c1_i32_8
  let v18 : BitVec 32 := Scalar.addi v16 v17
  v18.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v19 : BitVec 32 := Scalar.muli v2 c2_i32_12
  let v20 : BitVec 32 := Scalar.addi c0_i32_13 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v21 : BitVec 32 := Scalar.muli v6 c1_i32_14
  let v22 : BitVec 32 := Scalar.addi v20 v21
  v22.toNat
def k0_dev3 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v29 : BitVec 32 := Scalar.muli v2 c2_i32_21
  let v30 : BitVec 32 := Scalar.addi c0_i32_22 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_23 : BitVec 32 := 1#32
  let v31 : BitVec 32 := Scalar.muli v6 c1_i32_23
  let v32 : BitVec 32 := Scalar.addi v30 v31
  v32.toNat
def k0_off2 (d0 : Dev nD) : Fin 3 → Nat :=
  let c0_37 : Index := 0#32
  let c0_38 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_36 : BitVec 32 := 256#32
  let v47 : BitVec 32 := Scalar.muli v5 c256_i32_36
  let v48 : Index := Scalar.indexCast v47
  ![0, 0, v48.toNat]
def k0_off3 (d0 : Dev nD) : Fin 3 → Nat :=
  let c0_53 : Index := 0#32
  let c128 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_52 : BitVec 32 := 256#32
  let v64 : BitVec 32 := Scalar.muli v5 c256_i32_52
  let v65 : Index := Scalar.indexCast v64
  ![0, 128, v65.toNat]
abbrev stage0_0 : Fin 1 → Memref sig .tc .vmem S1x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S2x256x512, .f32⟩
  | .hbm, ⟨2, _⟩ => ⟨S_, .f32⟩
  | .hbm, ⟨3, _⟩ => ⟨S256x512, .f32⟩
  | .hbm, ⟨4, _⟩ => ⟨S256x512, .bf16⟩
  | .hbm, ⟨5, _⟩ => ⟨S256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.ExchangeKernelIdeal.lean ====
/-
# The exchange between the two devices of a row: who pays whom, and what each holds

Device `c` has one partner, `peer c`: the other device of its row of the mesh. The two do the same thing at
the same time. Each copies the columns its partner wants into its send buffer, tells the partner that its
receive buffer is free (one unit on the partner's barrier semaphore), waits to be told so itself, and sends its
send buffer in two halves of 128 rows, each half on a pair of DMA semaphores of its own. As the halves arrive
it adds them to its own columns and writes the sums out.

This module states that as a schedule for the rounds library: each device has five semaphore cells — its
barrier, two for the departures of the halves, two for their arrivals —, each cell has one round and one
payment, and the payment hands over what `pay` says. It also has the facts about the two halves of a buffer
and about what the loads read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.ViewIndex
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the staging copies' and the exchange's, each with one duty a round. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev EX : Emb (URounds (GSem nD τ sig) Unit) (MT nD τ sig Unit (Elt F) ℕ UU ℕ) := embR

variable (m : (ℓ : Loc nD τ sig) → Buf (Elt F) ℓ) (ρ : Dev nD → PrngReg)

/-! ## Partners -/

set_option backward.proofsInPublic true in
/-- The other device of `c`'s row: device `2x + y` has partner `2x + (1 - y)`. -/
def peer (c : Dev nD) : Dev nD := ⟨2 * (c.val / 2) + 1 - c.val % 2, by have : c.val < 4 := c.isLt; show _ < 4; omega⟩

/-- The partner of the partner is the device itself. -/
theorem peer_involutive : Function.Involutive peer := fun c => Fin.ext (by
  have : c.val < 4 := c.isLt
  show 2 * ((2 * (c.val / 2) + 1 - c.val % 2) / 2) + 1 - (2 * (c.val / 2) + 1 - c.val % 2) % 2 = c.val
  omega)

/-- Taking partners, as a permutation of the devices. -/
def peers : Dev nD ≃ Dev nD := peer_involutive.toPerm

/-- The device's place in its row, which is also the number of its block of columns. -/
def col (c : Dev nD) : Fin 2 := ⟨c.val % 2, Nat.mod_lt _ (by decide)⟩

/-- The number of the partner's block of columns. -/
theorem col_peer (c : Dev nD) : ((col (peer c)).val : ℕ) = 1 - (col c).val := by revert c; decide

/-- The signal and both copies are addressed to the partner. -/
theorem to_peer (c : Dev nD) : ((⟨k0_dev1 c, k0_dev1_lt c⟩ : Dev nD) = peer c) ∧ ((⟨k0_dev2 c, k0_dev2_lt c⟩ : Dev nD) = peer c)
    ∧ ((⟨k0_dev3 c, k0_dev3_lt c⟩ : Dev nD) = peer c) := by
  refine ⟨?_, ?_, ?_⟩ <;> apply Fin.ext
  exacts [k0_dev1_eq c, k0_dev2_eq c, k0_dev3_eq c]

/-! ## Buffers, halves and cells -/

abbrev xM : Memref sig .tc .vmem S1x256x512 .bf16 := Memref.whole cc0_stg0_0
abbrev oM : Memref sig .tc .vmem S256x256 .f32 := Memref.whole cc0_stg1_0
/-- The send buffer and the receive buffer. -/
abbrev sM : Memref sig .tc .vmem S256x256 .bf16 := Memref.whole cc0_scratch0
abbrev rM : Memref sig .tc .vmem S256x256 .bf16 := Memref.whole cc0_scratch1

theorem rows_inb (k : Fin 2) (a : Fin S256x256.rank) : (![128 * k.val, 0] : Fin 2 → ℕ) a + S128x256.size a ≤ S256x256.size a := by
  fin_cases k <;> fin_cases a <;> decide

/-- Half `k` of a buffer: its 128 rows from row `128 k` on. -/
abbrev rows (k : Fin 2) : Rect S256x256 := Rect.unit (s := S256x256) ![128 * k.val, 0] S128x256.size (rows_inb k)
abbrev half (M : Memref sig .tc .vmem S256x256 .bf16) (k : Fin 2) : Memref sig .tc .vmem S128x256 .bf16 := M.slice (rows k) (fun _ => rfl)

theorem sem_inb (k : Fin 2) (a : Fin S2.rank) : (![k.val] : Fin 1 → ℕ) a + S1.size a ≤ S2.size a := by
  fin_cases k <;> fin_cases a <;> decide

/-- Semaphore `k` of a pair. -/
abbrev nth (A : DmaSems sig S2) (k : Fin 2) : DmaSem sig :=
  ((A.slice (Rect.unit (s := S2) ![k.val] S1.size (sem_inb k))).squeeze S_ squeezes_S1_S_).sem
abbrev barS : Sem sig := (SemArray.scalar (sig.barrier 0 rfl) : Sems sig S_).sem

/-- A device's cells in this exchange: `none` its barrier; `some (false, k)` the departure of its half `k`,
    `some (true, k)` the arrival of its partner's. -/
abbrev Cell : Type := Option (Bool × Fin 2)

abbrev csem : Cell → SemLoc sig
  | none => .reg barS
  | some (false, k) => .dma (nth cc0_scratch2 k)
  | some (true, k) => .dma (nth cc0_scratch3 k)

theorem csem_injective : Function.Injective csem := by
  intro a b
  revert a b
  decide

abbrev cell (c : Dev nD) (k : Cell) : GSem nD τ sig := ((c : Thread nD τ), csem k)

theorem cell_injective : Function.Injective fun ck : Dev nD × Cell => cell ck.1 ck.2 := by
  rintro ⟨c, k⟩ ⟨c', k'⟩ h
  have hc : c = c' := congrArg (fun g : GSem nD τ sig => g.1.1) h
  have hk : k = k' := csem_injective (congrArg Prod.snd h)
  rw [hc, hk]

theorem cell_eq_iff {c c' : Dev nD} {k k' : Cell} : Iff (cell c k = cell c' k') (c = c' ∧ k = k') :=
  ⟨fun h => ⟨congrArg Prod.fst (cell_injective (a₁ := (c, k)) (a₂ := (c', k')) h), congrArg Prod.snd (cell_injective (a₁ := (c, k)) (a₂ := (c', k')) h)⟩,
    fun h => by rw [h.1, h.2]⟩

/-- The credit of one half, the same for both. -/
abbrev N : ℕ := (half rM 0).view.dmaCredit
theorem N_pos : 0 < N := View.dmaCredit_pos _ (by decide)

/-- What a cell is paid, in all: one unit for a barrier, the credit of a half for the others. -/
def units : Cell → ℕ
  | none => 1
  | some _ => N

theorem units_pos : ∀ k : Cell, 0 < units k
  | none => Nat.one_pos
  | some _ => N_pos

/-! ## Contents -/

/-- The device's block of the argument, as its staging buffer holds it. -/
def xs (c : Dev nD) : (cc0_stg0_0 : Ref sig .tc).ty.Contents (Elt F) :=
  (win0_0.blk (0 : Fin 1)).view.read (Elt F) (m ((c : Thread nD τ).loc main_arg0))

/-- Where entry `i` of block `w` of columns lies in a [1, 256, 512] array. -/
def colIdx (w : Fin 2) (i : S256x256.Idx) : S1x256x512.Idx := fun a => match a with
  | ⟨0, _⟩ => (⟨0, Nat.one_pos⟩ : Fin 1)
  | ⟨1, _⟩ => (⟨(i 0).val, (i 0).isLt⟩ : Fin 256)
  | ⟨2, _⟩ => (⟨256 * w.val + (i 1).val, by have h : (i 1).val < 256 := (i 1).isLt; have := w.isLt; omega⟩ : Fin 512)

/-- Block `w` of columns of the device's argument. -/
def cols (c : Dev nD) (w : Fin 2) : FVec F S256x256 .bf16 := fun i => xs m c (colIdx w i)

/-- What a device sends: its partner's block of columns. -/
def sent (c : Dev nD) : FVec F S256x256 .bf16 := cols m c (col (peer c))

/-- The result: the device's own block of columns plus the same block of its partner's argument, in f32. -/
def outAt (c : Dev nD) : FVec F S256x256 .f32 :=
  addf (extf .f32 (cols m c (col c)) bitsLt_bf16_f32) (extf .f32 (sent m (peer c)) bitsLt_bf16_f32)

/-- Half `k` of a buffer held at contents `f`. -/
def halfPts (M : Memref sig .tc .vmem S256x256 .bf16) (k : Fin 2) (c : Dev nD) (f : Buf (Elt F) ((half M k).view.loc (c : Thread nD τ))) : sProp 𝕄 :=
  (half M k).view.loc (c : Thread nD τ) ↦[(half M k).view.set]{fullShare} f

omit [FloatOps F] in
instance halfPts_storable (M : Memref sig .tc .vmem S256x256 .bf16) (k : Fin 2) (c : Dev nD) (f) :
    BI.Storable (upEmb : UEmb _ 𝕄) (halfPts (F := F) M k c f) := by unfold halfPts; infer_instance

/-! ## The two halves make the buffer -/

theorem rows_disjoint (k k' : Fin 2) (h : k ≠ k') : Disjoint (rows k).set (rows k').set :=
  Rect.unit_disjoint (s := S256x256) 0 (by
    fin_cases k <;> fin_cases k' <;> first | exact absurd rfl h | (left; decide) | (right; decide))

theorem rows_cover : (Finset.univ : Finset (Fin 2)).biUnion (fun k => (rows k).set) = Finset.univ := by
  ext i
  have h0 : (i 0).val < 256 := (i 0).isLt
  have h1 : (i 1).val < 256 := (i 1).isLt
  refine ⟨fun _ => Finset.mem_univ _, fun _ => Finset.mem_biUnion.mpr
    ⟨⟨(i 0).val / 128, by omega⟩, Finset.mem_univ _, Rect.mem_set_unit.mpr fun a => ?_⟩⟩
  match a with
  | ⟨0, _⟩ =>
    show 128 * ((i 0).val / 128) ≤ (i 0).val ∧ (i 0).val < 128 * ((i 0).val / 128) + 128
    omega
  | ⟨1, _⟩ =>
    show 0 ≤ (i 1).val ∧ (i 1).val < 0 + 256
    omega

/-- Every entry lies in one half. -/
theorem rows_surj (i : S256x256.Idx) : ∃ (k : Fin 2) (j : S128x256.Idx), i = (rows k).emb j := by
  have hi : i ∈ (Finset.univ : Finset (Fin 2)).biUnion (fun k => (rows k).set) := by rw [rows_cover]; exact Finset.mem_univ i
  obtain ⟨k, -, hk⟩ := Finset.mem_biUnion.mp hi
  rw [← Rect.map_emb_univ] at hk
  obtain ⟨j, -, hj⟩ := Finset.mem_map.mp hk
  exact ⟨k, j, hj.symm⟩

omit [FloatOps F] in
/-- The send buffer is its two halves. -/
theorem send_halves (c : Dev nD) (f : Buf (Elt F) ((c : Thread nD τ).loc cc0_scratch0)) :
    (((c : Thread nD τ).loc cc0_scratch0) ↦{fullShare} f : sProp 𝕄) = iprop(halfPts sM 0 c f ∗ halfPts sM 1 c f) := by
  rw [Ring.pointsTo_blocks (ℓ := (c : Thread nD τ).loc cc0_scratch0) (fun k : Fin 2 => (half sM k).view.set)
    (fun k k' h => View.disjoint_slice (v := sM.view) (rows_disjoint k k' h))
    (by rw [← rows_cover]; exact Finset.biUnion_congr rfl fun k _ => View.set_slice_whole _ _) f, bigSep_univ_two]
  rfl

omit [FloatOps F] in
/-- The receive buffer is its two halves. -/
theorem recv_halves (c : Dev nD) (f : Buf (Elt F) ((c : Thread nD τ).loc cc0_scratch1)) :
    (((c : Thread nD τ).loc cc0_scratch1) ↦{fullShare} f : sProp 𝕄) = iprop(halfPts rM 0 c f ∗ halfPts rM 1 c f) := by
  rw [Ring.pointsTo_blocks (ℓ := (c : Thread nD τ).loc cc0_scratch1) (fun k : Fin 2 => (half rM k).view.set)
    (fun k k' h => View.disjoint_slice (v := rM.view) (rows_disjoint k k' h))
    (by rw [← rows_cover]; exact Finset.biUnion_congr rfl fun k _ => View.set_slice_whole _ _) f, bigSep_univ_two]
  rfl

omit [FloatOps F] in
/-- What half `k` of the receive buffer holds once half `k` of a send buffer at `f` has been copied into it. -/
theorem landed (k : Fin 2) (c : Dev nD) (fd : Buf (Elt F) ((half rM k).view.loc (c : Thread nD τ))) (f : FVec F S256x256 .bf16) :
    ((half rM k).view.loc (c : Thread nD τ) ↦[(half rM k).view.set]{fullShare}
        ((half rM k).view.write (Elt F) fd ((half sM k).view.read (Elt F) f) Finset.univ) : sProp 𝕄) = halfPts rM k c f := by
  unfold halfPts
  refine pointsTo_congr fun i hi => ?_
  obtain ⟨x, rfl⟩ := View.exists_of_mem_set_slice (v := rM.view) hi
  exact View.write_emb_of_mem (v := (half rM k).view) fd _ (Finset.mem_univ x)

/-! ## The schedule -/

/-- What the payment of each of `c`'s cells hands `c`: for the barrier its PARTNER's receive buffer, at whatever
    it holds, with the knowledge that the partner's arrival cells are open; for a departure the half of its own
    send buffer back; for an arrival the half of its receive buffer, holding what the partner sent. -/
def pay (c : Dev nD) : Cell → sProp 𝕄
  | none => iprop((∃ f, halfPts rM 0 (peer c) f) ∗ (∃ f, halfPts rM 1 (peer c) f)
      ∗ reached EX (cell (peer c) (some (true, 0))) 0 ∗ reached EX (cell (peer c) (some (true, 1))) 0)
  | some (false, k) => halfPts sM k c (sent m c)
  | some (true, k) => halfPts rM k c (sent m (peer c))

instance pay_storable (c : Dev nD) : ∀ k : Cell, BI.Storable (upEmb : UEmb _ 𝕄) (pay (F := F) m c k)
  | none => by unfold pay; infer_instance
  | some (false, k) => by unfold pay; infer_instance
  | some (true, k) => by unfold pay; infer_instance

theorem pay_departure (c : Dev nD) (k : Fin 2) : pay (F := F) m c (some (false, k)) = halfPts sM k c (sent m c) := rfl
theorem pay_arrival (c : Dev nD) (k : Fin 2) : pay (F := F) m c (some (true, k)) = halfPts rM k c (sent m (peer c)) := rfl

/-- The cell a semaphore is, if it is one. -/
def cell? (s : SemLoc sig) : Option Cell := ([none, some (false, 0), some (false, 1), some (true, 0), some (true, 1)] : List Cell).find? fun k => csem k = s

theorem cell?_csem : ∀ k : Cell, cell? (csem k) = some k := by decide

/-- One round, one duty per cell. -/
def sched : Rounds.Schedule (GSem nD τ sig) Unit 𝕄 where
  duties g r := if r = 0 ∧ g.1.2 = .tc ∧ (cell? g.2).isSome then {()} else ∅
  unitless _ := False
  amount g _ _ := match cell? g.2 with
    | some k => units k
    | none => 1
  payload g _ _ := match cell? g.2 with
    | some k => pay m g.1.1 k
    | none => iprop(emp)
  amount_pos g _ _ _ := by
    cases cell? g.2 with
    | none => exact Nat.one_pos
    | some k => exact units_pos k

instance sched_payload_storable (g : GSem nD τ sig) (r : ℕ) (d : Unit) :
    BI.Storable (upEmb : UEmb _ 𝕄) ((sched (F := F) m).payload g r d) := by
  show BI.Storable upEmb (match cell? g.2 with | some k => pay m g.1.1 k | none => iprop(emp))
  cases cell? g.2 <;> infer_instance

section Sched
variable (c : Dev nD) (k : Cell)

theorem duties_cell : (sched (F := F) m).duties (cell c k) 0 = {()} := by
  dsimp only [sched]
  rw [cell?_csem]
  exact if_pos ⟨rfl, rfl, rfl⟩

theorem mem_duties : () ∈ (sched (F := F) m).duties (cell c k) 0 := by
  rw [duties_cell]; exact Finset.mem_singleton_self _

theorem duties_later (g : GSem nD τ sig) : ∀ r, 1 ≤ r → (sched (F := F) m).duties g r = ∅ :=
  fun r hr => if_neg fun h => by omega

theorem amount_cell : (sched (F := F) m).amount (cell c k) 0 () = units k := by
  dsimp only [sched]
  rw [cell?_csem]

theorem payload_cell : (sched (F := F) m).payload (cell c k) 0 () = pay m c k := by
  dsimp only [sched]
  rw [cell?_csem]

theorem expect_cell : (sched (F := F) m).expect (cell c k) 0 = units k := by
  unfold Schedule.expect Schedule.amountOf
  rw [duties_cell, Finset.sum_singleton, amount_cell]

theorem rest_cell : bigSep ((sched (F := F) m).duties (cell c k) 0 \ ∅) (fun d => (sched (F := F) m).payload (cell c k) 0 d) = pay m c k := by
  rw [Finset.sdiff_empty, duties_cell, bigSep_singleton, payload_cell]

end Sched

/-! ## What each device owes at launch, and the order the waits go in -/

/-- What `c` owes cell `k` of its partner. -/
abbrev owe (c : Dev nD) (k : Cell) : CellTallies nD τ sig Unit := tallyAt (cell (peer c) k) () (units k)

/-- After the signal and the first copy; after the signal; at launch. -/
def O₂ (c : Dev nD) : CellTallies nD τ sig Unit := owe c (some (true, 1))
def O₁ (c : Dev nD) : CellTallies nD τ sig Unit := O₂ c + owe c (some (true, 0))
def O₀ (c : Dev nD) : CellTallies nD τ sig Unit := O₁ c + owe c none

def L (g : GSem nD τ sig) : Finset Unit := if g.1.2 = .tc then {()} else ∅
/-- Arrivals above barriers, barriers above everything else. -/
def rank (s : SemLoc sig) : ℕ := match cell? s with
  | some none => 1
  | some (some (true, _)) => 2
  | _ => 0
def lv (g : GSem nD τ sig) (_ : Unit) : ℕ := rank g.2

theorem L_of_ne (g : GSem nD τ sig) (h : g.1.2 ≠ .tc) : L g = ∅ := if_neg h
theorem mem_L (c : Dev nD) (s : SemLoc sig) : () ∈ L ((c : Thread nD τ), s) := by
  unfold L; rw [if_pos rfl]; exact Finset.mem_singleton_self _

theorem owe_apply (c d : Dev nD) (k k' : Cell) : owe c k (cell d k') () = if d = peer c ∧ k' = k then units k else 0 := by
  unfold owe
  rw [tallyAt_apply]
  exact if_congr ⟨fun h => cell_eq_iff.mp h.1, fun h => ⟨cell_eq_iff.mpr h, rfl⟩⟩ rfl rfl

/-- Where a tally of `c`'s is positive, it is at the cell it names. -/
theorem owe_pos {c : Dev nD} {k : Cell} {g : GSem nD τ sig} {u : Unit} (h : 0 < owe c k g u) : g = cell (peer c) k := by
  unfold owe at h
  rw [tallyAt_apply] at h
  by_contra hn
  rw [if_neg fun h' => hn h'.1] at h
  exact Nat.lt_irrefl 0 h

theorem O₁_pos {c : Dev nD} {g : GSem nD τ sig} {u : Unit} (h : 0 < O₁ c g u) : ∃ k : Fin 2, g = cell (peer c) (some (true, k)) := by
  unfold O₁ O₂ at h
  rw [Pi.add_apply, Finsupp.add_apply] at h
  rcases Nat.eq_zero_or_pos (owe c (some (true, 1)) g u) with h1 | h1
  · rw [h1, Nat.zero_add] at h
    exact ⟨0, owe_pos h⟩
  · exact ⟨1, owe_pos h1⟩

theorem O₀_pos {c : Dev nD} {g : GSem nD τ sig} {u : Unit} (h : 0 < O₀ c g u) :
    g = cell (peer c) none ∨ ∃ k : Fin 2, g = cell (peer c) (some (true, k)) := by
  unfold O₀ at h
  rw [Pi.add_apply, Finsupp.add_apply] at h
  rcases Nat.eq_zero_or_pos (O₁ c g u) with h1 | h1
  · rw [h1, Nat.zero_add] at h
    exact .inl (owe_pos h)
  · exact .inr (O₁_pos h1)

theorem rank_csem (k : Cell) : rank (csem k) = match k with | none => 1 | some (true, _) => 2 | some (false, _) => 0 := by
  unfold rank; rw [cell?_csem]
  rcases k with _ | ⟨_ | _, _⟩ <;> rfl

omit [FloatOps F] in
/-- A device may wait on a semaphore of rank `n` while all it owes is owed to TensorCore cells above rank `n`. -/
theorem may_wait (c : Dev nD) (s : SemLoc sig) (O : CellTallies nD τ sig Unit) (n : ℕ) (hs : rank s ≤ n)
    (hO : ∀ g u, 0 < O g u → ∃ d k, g = cell d k ∧ n < rank (csem k)) :
    (levAts L lv : sProp 𝕄) ⊢ MayWait (c : Thread nD τ) s () O :=
  MayOwe.of_cut (L := L) (lev := lv) n
    (fun p hp => by rw [Finset.mem_singleton.mp hp]; exact mem_L c s)
    (fun g u hg => by obtain ⟨d, k, rfl, -⟩ := hO g u hg; exact mem_L d _)
    (fun p hp => by rw [Finset.mem_singleton.mp hp]; exact hs)
    (fun g u hg => by obtain ⟨d, k, rfl, hk⟩ := hO g u hg; exact hk)

omit [FloatOps F] in
/-- At its barrier wait a device owes the two arrivals only. -/
theorem may_wait_barrier (c : Dev nD) : (levAts L lv : sProp 𝕄) ⊢ MayWait (c : Thread nD τ) (csem none) () (O₁ c) :=
  may_wait c _ _ 1 (by rw [rank_csem]) fun g u hg => by
    obtain ⟨k, rfl⟩ := O₁_pos hg
    exact ⟨_, _, rfl, by rw [rank_csem]; exact Nat.one_lt_two⟩

omit [FloatOps F] in
/-- The staging copies' waits may come at any time. -/
theorem may_wait_staging (c : Dev nD) (s : SemLoc sig) (hs : rank s = 0) (O : CellTallies nD τ sig Unit) (hO : O = O₀ c ∨ O = 0) :
    (levAts L lv : sProp 𝕄) ⊢ MayWait (c : Thread nD τ) s () O := by
  rcases hO with rfl | rfl
  · refine may_wait c s _ 0 (Nat.le_of_eq hs) fun g u hg => ?_
    rcases O₀_pos hg with rfl | ⟨k, rfl⟩
    · exact ⟨_, _, rfl, by rw [rank_csem]; exact Nat.one_pos⟩
    · exact ⟨_, _, rfl, by rw [rank_csem]; exact Nat.two_pos⟩
  · rw [MayWait_zero]; iintro -; iempintro

/-! ## What the loads read and the stores leave -/

theorem block_inb {n o w : ℕ} (ho : o + n ≤ 256) (hw : w < 2) (a : Fin S1x256x512.rank) :
    (![0, o, 256 * w] : Fin 3 → ℕ) a + (![1, n, 256] : Fin 3 → ℕ) a ≤ S1x256x512.size a := by
  fin_cases a
  · show 0 + 1 ≤ 1; omega
  · show o + n ≤ 256; exact ho
  · show 256 * w + 256 ≤ 512; omega

omit [FloatOps F] in
/-- `n` rows from row `o` on of block `w` of columns, loaded and viewed as a matrix, read at an entry. -/
theorem block_at (c : Dev nD) {n o : ℕ} (w : Fin 2) {off : Fin 3 → ℕ} (hoff : off = ![0, o, 256 * w.val])
    (inb : ∀ a : Fin S1x256x512.rank, off a + (![1, n, 256] : Fin 3 → ℕ) a ≤ S1x256x512.size a)
    (hc : (⟨3, ![1, n, 256]⟩ : Shape).ShapeCasts ⟨2, ![n, 256]⟩) (j : (⟨2, ![n, 256]⟩ : Shape).Idx) (i : S256x256.Idx)
    (h0 : (i 0).val = o + (j 0).val) (h1 : (i 1).val = (j 1).val) :
    shapeCast ⟨2, ![n, 256]⟩ (xM.view.readAt (Elt F) (Rect.unit (s := S1x256x512) off ![1, n, 256] inb).toLoadRect (xs m c)) hc j
      = cols m c w i := by
  subst hoff
  refine (shapeCast_dropUnit_apply (n := 2) ![n, 256] _ hc j).trans ?_
  unfold cols
  rw [View.readAt_apply]
  refine congrArg (xs m c) (funext fun a => Fin.ext ?_)
  match a with
  | ⟨0, _⟩ => show 0 + 1 * 0 = 0; rfl
  | ⟨1, _⟩ => show o + 1 * (j 0).val = (i 0).val; omega
  | ⟨2, _⟩ => show 256 * w.val + 1 * (j 1).val = 256 * w.val + (i 1).val; omega

/-- What the first store puts into the send buffer. -/
theorem sent_eq (c : Dev nD) :
    k0_pay2 (xM.view.readAt (Elt F) (Rect.unit (s := S1x256x512) (k0_off1 c) S1x256x256.size (k0_off1_inb c)).toLoadRect (xs m c)) = sent m c := by
  funext i
  unfold k0_pay2
  rw [shapeCast_self]
  refine block_at m c (n := 256) (o := 0) (col (peer c)) ?_ (k0_off1_inb c) _ i i (Nat.zero_add _).symm rfl
  rw [k0_off1_eq, col_peer]
  refine congrArg (fun t => (![0, 0, t] : Fin 3 → ℕ)) ?_
  show 256 - 256 * (c.val % 2) = 256 * (1 - c.val % 2)
  omega

/-- What a sum of a half puts into the result, entry by entry. -/
theorem sum_at (c : Dev nD) (k : Fin 2) {off : Fin 3 → ℕ} (hoff : off = ![0, 128 * k.val, 256 * (c.val % 2)])
    (inb : ∀ a : Fin S1x256x512.rank, off a + S1x128x256.size a ≤ S1x256x512.size a) (j : S128x256.Idx) :
    k0_pay1 (xM.view.readAt (Elt F) (Rect.unit (s := S1x256x512) off S1x128x256.size inb).toLoadRect (xs m c))
        (rM.view.readAt (Elt F) (rows k).toLoadRect (sent m (peer c))) j
      = outAt m c ((rows k).emb j) := by
  unfold k0_pay1 outAt
  have hx : shapeCast S128x256 (xM.view.readAt (Elt F) (Rect.unit (s := S1x256x512) off S1x128x256.size inb).toLoadRect (xs m c))
      shapeCasts_S1x128x256_S128x256 j = cols m c (col c) ((rows k).emb j) :=
    block_at m c (n := 128) (o := 128 * k.val) (col c) hoff inb _ j _
      (by show 128 * k.val + 1 * (j 0).val = _; omega) (by show 0 + 1 * (j 1).val = _; omega)
  have hr : rM.view.readAt (Elt F) (rows k).toLoadRect (sent m (peer c)) j = sent m (peer c) ((rows k).emb j) := rfl
  exact congrArg₂ FloatOps.addf (congrArg (FloatOps.extf .f32 bitsLt_bf16_f32) hx) (congrArg (FloatOps.extf .f32 bitsLt_bf16_f32) hr)

theorem pay3_eq : k0_pay3 (F := F) = k0_pay1 (F := F) := rfl

omit [FloatOps F] in
/-- A store of half `k` of the result, read where it wrote. -/
theorem store_at (k : Fin 2) (f : (cc0_stg1_0 : Ref sig .tc).ty.Contents (Elt F)) (p : FVec F S128x256 .f32) (j : S128x256.Idx) :
    (oM.access (rows k)).write (Elt F) f p Finset.univ ((rows k).emb j) = p j :=
  View.write_emb_of_mem (v := oM.access (rows k)) f p (Finset.mem_univ j)

omit [FloatOps F] in
/-- The store of one half does not touch the other. -/
theorem store_off {k k' : Fin 2} (h : k ≠ k') (f : (cc0_stg1_0 : Ref sig .tc).ty.Contents (Elt F)) (p : FVec F S128x256 .f32) (j : S128x256.Idx) :
    (oM.access (rows k')).write (Elt F) f p Finset.univ ((rows k).emb j) = f ((rows k).emb j) :=
  View.write_of_not_mem (v := oM.access (rows k')) f p Finset.univ fun hm =>
    Finset.disjoint_left.mp (View.disjoint_slice (v := oM.view) (r := rows k) (r' := rows k') (rows_disjoint k k' h))
      (View.emb_mem_set (oM.access (rows k)) j) hm

omit [FloatOps F] in
/-- The two stores of sums cover the result, whatever it held. -/
theorem stores_eq (f w : (cc0_stg1_0 : Ref sig .tc).ty.Contents (Elt F)) (p₀ p₁ : FVec F S128x256 .f32)
    (h₀ : ∀ j, p₀ j = w ((rows 0).emb j)) (h₁ : ∀ j, p₁ j = w ((rows 1).emb j)) :
    (oM.access (rows 1)).write (Elt F) ((oM.access (rows 0)).write (Elt F) f p₀ Finset.univ) p₁ Finset.univ = w := by
  funext i
  obtain ⟨k, j, rfl⟩ := rows_surj i
  have hk : k = 0 ∨ k = 1 := by revert k; decide
  rcases hk with rfl | rfl
  · rw [store_off (by decide), store_at, h₀]
  · rw [store_at, h₁]

end Cert.KernelIdeal.Exchange

end
-- ==== Proof.BodyKernelIdeal.lean ====
/-
# What one device's kernel does, run symbolically

The body of the kernel, from the device's two staging buffers, its send and receive buffers, its share of the
exchange's ghost state and what it owes its partner, to the result in its staging buffer, both buffers whole
again, nothing owed and its five semaphores at zero.

Three rules carry it: `wait_cell` for all five waits, `send_half` for the two copies, `sum_half` for the two
loads, sums and stores.
-/
module

public import proofs.«01_k».proof.Proof.ExchangeKernelIdeal

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device starts from -/

/-- What every device knows: each cell's invariant, at the name the launch gave it, and that its round is open. -/
def records (K : Dev nD × Cell → ℕ) : sProp 𝕄 :=
  bigSep Finset.univ fun ck : Dev nD × Cell => iprop(cellInv EX (sched m) (K ck) (cell ck.1 ck.2) ∗ reached EX (cell ck.1 ck.2) 0)

instance records_persistent (K : Dev nD × Cell → ℕ) : BI.Persistent (records m K) := by unfold records; infer_instance

theorem inv_of (K : Dev nD × Cell → ℕ) (c : Dev nD) (k : Cell) : records m K ⊢ cellInv EX (sched m) (K (c, k)) (cell c k) := by
  unfold records
  refine (bigSep_elim (Finset.mem_univ (c, k))).trans ?_
  show iprop(cellInv EX (sched m) (K (c, k)) (cell c k) ∗ reached EX (cell c k) 0) ⊢ _
  iintro ⟨H, -⟩; iexact H

theorem open_of (K : Dev nD × Cell → ℕ) (c : Dev nD) (k : Cell) : records m K ⊢ reached EX (cell c k) 0 := by
  unfold records
  refine (bigSep_elim (Finset.mem_univ (c, k))).trans ?_
  show iprop(cellInv EX (sched m) (K (c, k)) (cell c k) ∗ reached EX (cell c k) 0) ⊢ _
  iintro ⟨-, H⟩; iexact H

/-- Who is paid by a device at its cell `k`: itself for a departure, its partner otherwise. -/
def payee : Cell → Dev nD ≃ Dev nD
  | some (false, _) => Equiv.refl _
  | _ => peers

/-- A device's positions at its own cells, and the tokens of the payments it makes. -/
def dealt (c : Dev nD) : sProp 𝕄 :=
  iprop((bigSep Finset.univ fun k : Cell => atPos EX (cell c k) 0 ∅ 0) ∗ bigSep Finset.univ fun k : Cell => dutyTok EX (cell (payee k c) k) 0 ())

omit [FloatOps F] in
theorem bigSep_cells (Φ : Cell → sProp 𝕄) :
    bigSep Finset.univ Φ = iprop(Φ none ∗ Φ (some (false, 0)) ∗ Φ (some (false, 1)) ∗ Φ (some (true, 0)) ∗ Φ (some (true, 1))) :=
  bigSep_univ_eq_bigSepL [none, some (false, 0), some (false, 1), some (true, 0), some (true, 1)] (by decide) (by decide) Φ

/-- What the launch hands a device: the records, its share of the tokens, and credit for what its partner will pay. -/
def start (c : Dev nD) : sProp 𝕄 :=
  iprop((∃ K, records m K ∗ dealt c)
    ∗ (cred (tallyAt (cell c none) () 1) ∗ cred (tallyAt (cell c (some (true, 0))) () N) ∗ cred (tallyAt (cell c (some (true, 1))) () N))
    ∗ levAts L lv)

/-- The send and the receive buffer, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body; and after it: both buffers, and all five semaphores at zero. -/
def Φ₀ (c : Dev nD) : sProp 𝕄 := iprop(start m c ∗ scratch c)
def Φ₁ (c : Dev nD) : sProp 𝕄 := iprop(scratch c ∗ bigSep Finset.univ fun k : Cell => semVal (cell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The rules -/

section Rules

variable (K : Dev nD × Cell → ℕ) (c : Dev nD)

/-- A wait for all a cell is paid: the payment comes, and the cell, done with, gives its counter back at zero. -/
theorem wait_cell (k : Cell) {w : TpuEff nD τ sig (Elt F) Λ₀ .tc PUnit} {n : ℕ} (hn : units k = n)
    (hw : ∀ Kt : PUnit → sProp 𝕄, wpE (defs₀ (F := F)) 𝒱₀ (c : Thread nD τ) none Set.univ w Kt = waitSpec (c : Thread nD τ) Set.univ (csem k) n Kt)
    {α : Type} {Q : α → sProp 𝕄} {p : PUnit → Prog (TpuEff nD τ sig (Elt F) Λ₀ .tc) α} (O : CellTallies nD τ sig Unit) (W : Waits sig Unit) :
    iprop(records m K ∗ cred (tallyAt (cell c k) () (units k)) ∗ owes (c : Thread nD τ) O W ∗ MayWait (c : Thread nD τ) (csem k) () O ∗ atPos EX (cell c k) 0 ∅ 0)
      ⊢ iprop(((owes (c : Thread nD τ) O (insert (csem k, ()) W) ∗ pay m c k ∗ semVal (cell c k) 0)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  subst hn
  iintro ⟨#HR, Hc, HO, Hw, Hat⟩ Hk
  iapply (Rounds.wp_wait_rest_token 𝒱₀ EX (sched m) (c : Thread nD τ) none (κ := K (c, k)) hw (Set.mem_univ _) () (O := O) (W := W)
      (R := 0) (m := 0) (T := ∅) (by rw [Nat.zero_add, expect_cell])) $$ [Hc HO Hw Hat]
  · isplitr; · iapply (inv_of m K c k); iexact HR
    isplitl [Hc]; · iexact Hc
    isplitl [HO]; · iexact HO
    isplitl [Hw] <;> iassumption
  iintro ⟨HO, Hat, -, Hpay⟩
  ihave Hp := (Entails.of_eq (rest_cell m c k)) $$ Hpay
  imod (Rounds.cell_close EX (sched m) (Set.mem_univ (K (c, k))) (fun h => h) (R := 0 + 1) (duties_later m (cell c k))) $$ [Hat] with Hz
  · isplitr; · iapply (inv_of m K c k); iexact HR
    iexact Hat
  iapply Hk
  isplitl [HO]; · iexact HO
  isplitl [Hp] <;> iassumption

/-- The copy of half `k` to the partner: the half of the send buffer goes with it, and the half of the partner's
    receive buffer the barrier brought. -/
theorem send_half (k : Fin 2) (d : Dev nD) (hd : d = peer c)
    {hsc : (half rM k : Memref sig (Dev.tc d : Thread nD τ).2.kind .vmem S128x256 .bf16).view.ref.isScScratch = false}
    {hsrc : (half sM k).view.WordExact} {hdst : (half rM k : Memref sig (Dev.tc d : Thread nD τ).2.kind .vmem S128x256 .bf16).view.WordExact}
    {hsem : DmaTarget.Typed .vmem (csem (some (true, k))) (.remote (Dev.tc d : Thread nD τ) (half rM k) (csem (some (false, k))) hsc)}
    {α : Type} {Q : α → sProp 𝕄} {p : PUnit → Prog (TpuEff nD τ sig (Elt F) Λ₀ .tc) α}
    (fd : Buf (Elt F) ((half rM k).view.loc (peer c : Thread nD τ))) (O : CellTallies nD τ sig Unit) (W : Waits sig Unit) :
    iprop(records m K ∗ halfPts sM k c (sent m c) ∗ halfPts rM k (peer c) fd
        ∗ owes (c : Thread nD τ) (O + owe c (some (true, k))) W
        ∗ dutyTok EX (cell c (some (false, k))) 0 () ∗ dutyTok EX (cell (peer c) (some (true, k))) 0 ())
      ⊢ iprop(((cred (tallyAt (cell c (some (false, k))) () (units (some (false, k)))) ∗ owes (c : Thread nD τ) O W)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (half sM k) (.remote (Dev.tc d : Thread nD τ) (half rM k) (csem (some (false, k))) hsc) (csem (some (true, k))) hsrc hdst hsem) p) Q) := by
  subst hd
  iintro ⟨#HR, Hs, Hr, HO, Hts, Htr⟩
  unfold halfPts
  iapply (Rounds.wp_send_pointsTo 𝒱₀ EX (sched m) (c : Thread nD τ) none (κ₁ := K (c, some (false, k))) (κ₂ := K (peer c, some (true, k)))
    (r₁ := 0) (r₂ := 0) (d₁ := ()) (d₂ := ()) (fd := fd) (mem_duties m c _) (mem_duties m (peer c) _)
    () () N rfl (amount_cell m c _) (amount_cell m (peer c) _) O rfl (W := W)
    (Entails.of_eq (payload_cell m c (some (false, k))).symm)
    (Entails.of_eq ((landed k (peer c) fd (sent m c)).trans (by rw [payload_cell]; unfold pay; rw [peer_involutive _])))) $$ [Hs Hr HO Hts Htr]
  isplitr; · iapply (inv_of m K c _); iexact HR
  isplitr; · iapply (inv_of m K (peer c) _); iexact HR
  isplitl [Hs]; · iexact Hs
  isplitl [Hr]; · iexact Hr
  isplitl [HO]; · iexact HO
  isplitl [Hts]; · iexact Hts
  isplitr; · iapply (open_of m K c _); iexact HR
  isplitl [Htr]; · iexact Htr
  iapply (open_of m K (peer c) _); iexact HR

/-- A buffer of the device's, whole, at the contents `X`. -/
abbrev staged (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the sum of half `k` is computed from: the device's own rows and columns from `off` on, and the arrived half. -/
abbrev sumAt (k : Fin 2) {off : Fin 3 → ℕ} (inb : ∀ a : Fin S1x256x512.rank, off a + S1x128x256.size a ≤ S1x256x512.size a) : FVec F S128x256 .f32 :=
  k0_pay1 (xM.view.readAt (Elt F) (Rect.unit (s := S1x256x512) off S1x128x256.size inb).toLoadRect (xs m c))
    (rM.view.readAt (Elt F) (rows k).toLoadRect (sent m (peer c)))

/-- The loads, the sum and the store of half `k`. -/
theorem sum_half (k : Fin 2) {off : Fin 3 → ℕ} (inb : ∀ a : Fin S1x256x512.rank, off a + S1x128x256.size a ≤ S1x256x512.size a)
    {h₁ : xM.view.LoadsAt (Rect.unit (s := S1x256x512) off S1x128x256.size inb).toLoadRect} {h₂ : rM.view.LoadsAt (rows k).toLoadRect}
    {h₃ : oM.view.LoadsAt (rows k).toLoadRect} {h₄ : (oM.access (rows k)).Stores Finset.univ} {h₅}
    {α : Type} {Q : α → sProp 𝕄} {p : PUnit → Prog (TpuEff nD τ sig (Elt F) Λ₀ .tc) α} (f : Buf (Elt F) ((c : Thread nD τ).loc cc0_stg1_0)) :
    iprop((((c : Thread nD τ).loc cc0_stg0_0) ↦{fullShare} xs m c) ∗ halfPts rM k c (sent m (peer c)) ∗ (((c : Thread nD τ).loc cc0_stg1_0) ↦{fullShare} f))
      ⊢ iprop((((((c : Thread nD τ).loc cc0_stg0_0) ↦{fullShare} xs m c) ∗ halfPts rM k c (sent m (peer c))
              ∗ (((c : Thread nD τ).loc cc0_stg1_0) ↦{fullShare} ((oM.access (rows k)).write (Elt F) f (sumAt m c k inb) Finset.univ)))
            -∗ wp frame (wpE (defs₀ (F := F)) 𝒱₀ (c : Thread nD τ) none) Set.univ (p ⟨⟩) Q)
          -∗ wp frame (wpE (defs₀ (F := F)) 𝒱₀ (c : Thread nD τ) none) Set.univ
              (.op (.load xM (Rect.unit (s := S1x256x512) off S1x128x256.size inb).toLoadRect h₁) fun v =>
                .op (.load rM (rows k).toLoadRect h₂) fun u =>
                .op (.load oM (rows k).toLoadRect h₃) fun _ =>
                .op (.store oM (rows k) (k0_pay1 v u) Finset.univ h₄ h₅) p) Q) := by
  iintro ⟨Hx, Hr, Ho⟩ Hk
  unfold halfPts
  iapply (wp_load 𝒱₀ (c : Thread nD τ) none Set.univ (m := xM) (Finset.subset_univ _)) $$ Hx; iintro Hx
  iapply (wp_load_rect 𝒱₀ (c : Thread nD τ) none Set.univ (m := rM) (r := rows k) (Finset.Subset.refl _)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := rows k) (Mk := Finset.univ) (Finset.subset_univ _)) $$ Ho; iintro Ho
  iapply Hk
  isplitl [Hx]; · iexact Hx
  isplitl [Hr]; · iexact Hr
  iexact Ho

end Rules

/-! ## The body -/

section Body

variable (c : Dev nD)

abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

/-- What the body leaves. -/
def done : sProp 𝕄 :=
  iprop(Φ₁ c ∗ (dats m ρ 0 c).owesAt () t0_0.succ ∗ staged c cc0_stg0_0 (xs m c) ∗ staged c cc0_stg1_0 (outAt m c))

omit ρ in
/-- After the store the send buffer holds what is sent, half by half. -/
theorem filled (f : Buf (Elt F) ((c : Thread nD τ).loc cc0_scratch0)) :
    (((c : Thread nD τ).loc cc0_scratch0) ↦{fullShare}
        ((sM.access (Rect.unit (s := S256x256) ![0, 0] S256x256.size inb_S256x256_S256x256_0_0)).write (Elt F) f
          (k0_pay2 (xM.view.readAt (Elt F) (Rect.unit (s := S1x256x512) (k0_off1 c) S1x256x256.size (k0_off1_inb c)).toLoadRect (xs m c))) Finset.univ) : sProp 𝕄)
      = iprop(halfPts sM 0 c (sent m c) ∗ halfPts sM 1 c (sent m c)) := by
  rw [sent_eq, show (sM.access (Rect.unit (s := S256x256) ![0, 0] S256x256.size inb_S256x256_S256x256_0_0)).write (Elt F) f (sent m c) Finset.univ = sent m c
    from Memref.write_access_unit_zero_univ (Elt F) cc0_scratch0 (funext (by decide)) _ f (sent m c), send_halves]

omit ρ in
/-- The two sums stored are the result. -/
theorem result_eq (f : (cc0_stg1_0 : Ref sig .tc).ty.Contents (Elt F)) :
    (oM.access (rows 1)).write (Elt F) ((oM.access (rows 0)).write (Elt F) f (sumAt m c 0 (k0_off2_inb c)) Finset.univ)
        (sumAt m c 1 (k0_off3_inb c)) Finset.univ = outAt m c :=
  stores_eq f (outAt m c) _ _ (fun j => sum_at m c 0 (k0_off2_eq c) (k0_off2_inb c) j) (fun j => sum_at m c 1 (k0_off3_eq c) (k0_off3_inb c) j)

set_option maxHeartbeats 1600000 in
/-- The body, one rule per operation or group of operations, in program order. -/
theorem body_runs (d₀ d₁) (Kt : PUnit → sProp 𝕄) :
    iprop((start m c ∗ scratch c)
        ∗ (dats m ρ 0 c).owesAt () t0_0.castSucc
        ∗ staged c cc0_stg0_0 ((dats m ρ 0 c).before (0 : Fin 2) t0_0 d₀)
        ∗ staged c cc0_stg1_0 ((dats m ρ 0 c).before (1 : Fin 2) t0_0 d₁)
        ∗ (done m ρ c -∗ Kt ⟨⟩))
      ⊢ wp frame (wpE (defs₀ (F := F)) 𝒱₀ c none) Set.univ bodyProg Kt := by
  unfold bodyProg
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId, pay3_eq]
  unfold start scratch dealt
  rw [bigSep_cells, bigSep_cells]
  iintro ⟨⟨⟨⟨%K, #HR, ⟨HaB, HaS0, HaS1, HaR0, HaR1⟩, HtB, HtS0, HtS1, HtR0, HtR1⟩, ⟨HcB, HcR0, HcR1⟩, #Hlev⟩, ⟨%fs, Hs⟩, %fr, Hr⟩,
    Ho, ⟨%g0, %hg0, Hx⟩, ⟨%g1, %hg1, Hout⟩, Hk⟩
  have hx : g0 = xs m c := by rw [hg0]; unfold Dat.before; rw [if_pos (by decide)]; rfl
  subst hx
  unfold Dat.owesAt Pipeline.owesWithin
  icases Ho with ⟨%W, %hW, HO⟩
  rw [show (dats m ρ 0 c).owed t0_0.castSucc = O₀ c from rfl]
  simp only [(to_peer c).1]
  -- the partner's columns go into the send buffer
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM)
    (r := Rect.unit (s := S256x256) ![0, 0] S256x256.size inb_S256x256_S256x256_0_0) (Mk := Finset.univ) (Finset.subset_univ _)) $$ Hs; iintro Hs
  ihave Hs := (Entails.of_eq (filled m c fs)) $$ Hs
  icases Hs with ⟨Hs0, Hs1⟩
  ihave Hr := (Entails.of_eq (recv_halves c fr)) $$ Hr
  icases Hr with ⟨Hr0, Hr1⟩
  -- the signal: the receive buffer is the partner's to write
  iapply (Rounds.wp_signal 𝒱₀ EX (sched m) (c : Thread nD τ) none (dst := (peer c : Thread nD τ)) (κ := K (peer c, none))
      (d := ()) (mem_duties m (peer c) none) ((amount_cell m (peer c) none).trans (by decide)) () (O₁ c) rfl) $$ [HO HtB Hr0 Hr1]
  · isplitr; · iapply (inv_of m K (peer c) none); iexact HR
    isplitl [HO]; · iexact HO
    isplitl [HtB]; · iexact HtB
    isplitl
    · iapply (Entails.of_eq (payload_cell m (peer c) none).symm)
      unfold pay
      rw [peer_involutive _]
      isplitl [Hr0]; · iexists fr; iexact Hr0
      isplitl [Hr1]; · iexists fr; iexact Hr1
      isplitr; · iapply (open_of m K c (some (true, 0))); iexact HR
      iapply (open_of m K c (some (true, 1))); iexact HR
    · iapply (open_of m K (peer c) none); iexact HR
  iintro HO
  -- the barrier: the partner's receive buffer is this device's to write
  iapply (wait_cell m K c none rfl (wpE_semWait_eq 𝒱₀ (c : Thread nD τ) none Set.univ) (O₁ c) W) $$ [HcB HO HaB]
  · isplitr; · iexact HR
    isplitl [HcB]; · iexact HcB
    isplitl [HO]; · iexact HO
    isplitr; · iapply (may_wait_barrier c); iexact Hlev
    iexact HaB
  unfold pay
  iintro ⟨HO, ⟨⟨%p0, Hp0⟩, ⟨%p1, Hp1⟩, -, -⟩, HzB⟩
  -- the two copies
  unfold O₁
  iapply (send_half m K c 0 _ (to_peer c).2.1 p0 (O₂ c) _) $$ [Hs0 Hp0 HO HtS0 HtR0]
  · isplitr; · iexact HR
    isplitl [Hs0]; · iexact Hs0
    isplitl [Hp0]; · iexact Hp0
    isplitl [HO]; · iexact HO
    isplitl [HtS0]; · iexact HtS0
    iexact HtR0
  iintro ⟨HcS0, HO⟩
  rw [show O₂ c = 0 + owe c (some (true, 1)) from (zero_add _).symm]
  iapply (send_half m K c 1 _ (to_peer c).2.2 p1 0 _) $$ [Hs1 Hp1 HO HtS1 HtR1]
  · isplitr; · iexact HR
    isplitl [Hs1]; · iexact Hs1
    isplitl [Hp1]; · iexact Hp1
    isplitl [HO]; · iexact HO
    isplitl [HtS1]; · iexact HtS1
    iexact HtR1
  iintro ⟨HcS1, HO⟩
  -- each half as it arrives, and its sum
  iapply (wait_cell m K c (some (true, 0)) rfl (wpE_waitDma2_eq (dst := half rM 0) 𝒱₀ (c : Thread nD τ) none Set.univ) 0 _) $$ [HcR0 HO HaR0]
  · isplitr; · iexact HR
    isplitl [HcR0]; · iexact HcR0
    isplitl [HO]; · iexact HO
    isplitr; · rw [MayWait_zero]; iempintro
    iexact HaR0
  iintro ⟨HO, Hr0, HzR0⟩
  ihave Hr0 := (Entails.of_eq (pay_arrival m c 0)) $$ Hr0
  iapply (sum_half m c 0 (k0_off2_inb c) g1) $$ [Hx Hr0 Hout]
  · isplitl [Hx]; · iexact Hx
    isplitl [Hr0] <;> iassumption
  iintro ⟨Hx, Hr0, Hout⟩
  iapply (wait_cell m K c (some (true, 1)) rfl (wpE_waitDma2_eq (dst := half rM 1) 𝒱₀ (c : Thread nD τ) none Set.univ) 0 _) $$ [HcR1 HO HaR1]
  · isplitr; · iexact HR
    isplitl [HcR1]; · iexact HcR1
    isplitl [HO]; · iexact HO
    isplitr; · rw [MayWait_zero]; iempintro
    iexact HaR1
  iintro ⟨HO, Hr1, HzR1⟩
  ihave Hr1 := (Entails.of_eq (pay_arrival m c 1)) $$ Hr1
  iapply (sum_half m c 1 (k0_off3_inb c) _) $$ [Hx Hr1 Hout]
  · isplitl [Hx]; · iexact Hx
    isplitl [Hr1]; · iexact Hr1
    iexact Hout
  iintro ⟨Hx, Hr1, Hout⟩
  -- the halves of the send buffer come back
  iapply (wait_cell m K c (some (false, 0)) rfl (wpE_waitDma2_eq (dst := half sM 0) 𝒱₀ (c : Thread nD τ) none Set.univ) 0 _) $$ [HcS0 HO HaS0]
  · isplitr; · iexact HR
    isplitl [HcS0]; · iexact HcS0
    isplitl [HO]; · iexact HO
    isplitr; · rw [MayWait_zero]; iempintro
    iexact HaS0
  iintro ⟨HO, Hs0, HzS0⟩
  ihave Hs0 := (Entails.of_eq (pay_departure m c 0)) $$ Hs0
  iapply (wait_cell m K c (some (false, 1)) rfl (wpE_waitDma2_eq (dst := half sM 1) 𝒱₀ (c : Thread nD τ) none Set.univ) 0 _) $$ [HcS1 HO HaS1]
  · isplitr; · iexact HR
    isplitl [HcS1]; · iexact HcS1
    isplitl [HO]; · iexact HO
    isplitr; · rw [MayWait_zero]; iempintro
    iexact HaS1
  iintro ⟨HO, Hs1, HzS1⟩
  ihave Hs1 := (Entails.of_eq (pay_departure m c 1)) $$ Hs1
  rw [wp_ret]; imodintro
  iapply Hk
  unfold done Φ₁ scratch Dat.owesAt Pipeline.owesWithin
  rw [show (dats m ρ 0 c).owed t0_0.succ = 0 from rfl, bigSep_cells]
  isplitl [Hs0 Hs1 Hr0 Hr1 HzB HzS0 HzS1 HzR0 HzR1]
  · isplitl [Hs0 Hs1 Hr0 Hr1]
    · isplitl [Hs0 Hs1]
      · iexists (sent m c)
        iapply (Entails.of_eq (send_halves c (sent m c)).symm)
        isplitl [Hs0] <;> iassumption
      · iexists (sent m (peer c))
        iapply (Entails.of_eq (recv_halves c (sent m (peer c))).symm)
        isplitl [Hr0] <;> iassumption
    · isplitl [HzB]; · iexact HzB
      isplitl [HzS0]; · iexact HzS0
      isplitl [HzS1]; · iexact HzS1
      isplitl [HzR0] <;> iassumption
  isplitl [HO]
  · iexists _
    isplitr; rotate_left; · iexact HO
    ipureintro; exact fun _ _ => Or.inl trivial
  isplitl [Hx]
  · iexists _; isplitr; · (ipureintro; rfl)
    iexact Hx
  · iexists _; isplitr; rotate_left; · iexact Hout
    ipureintro
    exact result_eq m c g1

omit [FloatOps F] in
theorem owns_whole (b : Ref sig .tc) (X : b.ty.Contents (Elt F)) :
    (owns (Ix := Unit) (Name := ℕ) (U := UU) (Lvl := ℕ) (c : Thread nD τ) (Memref.whole b) fullShare X : sProp 𝕄) = staged c b X := by
  unfold owns
  simp only [Memref.view_whole, View.read_whole, View.set_whole]

set_option maxRecDepth 4000 in
/-- The body does what the launch asks of it. -/
theorem body_obligation : BodyObligation (dats (F := F) m ρ 0 c) (defs₀ (F := F)) 𝒱₀ () Set.univ := fun t => by
  rw [fin_N0 t, bigSep_W0, bigSep_W0]
  simp only [owns_whole]
  show iprop((start m c ∗ scratch c) ∗ (dats m ρ 0 c).owesAt () t0_0.castSucc
      ∗ (∃ d, staged c cc0_stg0_0 ((dats m ρ 0 c).before (0 : Fin 2) t0_0 d)) ∗ (∃ d, staged c cc0_stg1_0 ((dats m ρ 0 c).before (1 : Fin 2) t0_0 d)))
    ⊢ wp frame (wpE (defs₀ (F := F)) 𝒱₀ c none) Set.univ bodyProg (fun _ => done m ρ c)
  iintro ⟨HΦ, Ho, ⟨%d₀, Hx⟩, %d₁, Hout⟩
  iapply (body_runs m ρ c d₀ d₁ fun _ => done m ρ c)
  isplitl [HΦ]; · iexact HΦ
  isplitl [Ho]; · iexact Ho
  isplitl [Hx]; · iexact Hx
  isplitl [Hout]; · iexact Hout
  iintro H; iexact H

end Body

end Cert.KernelIdeal.Exchange

end
-- ==== Proof.LaunchKernelIdeal.lean ====
/-
# The launch of the four devices

From zero counters the launch mints the exchange's ghost state and deals it out: every device gets the positions
of its own five cells, and the token of each payment goes to the device that makes it — the departures' to the
device itself, the others' to its partner. With that every device's body runs as `body_obligation` says, so every
run ends with the result in place, the argument as it was, and every semaphore at zero.
-/
module

public import proofs.«01_k».proof.Proof.BodyKernelIdeal
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: all but the barrier, which is the runtime's. -/
abbrev osem (x : Bool × Fin 2) : SemLoc sig := csem (some x)

theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

omit [FloatOps F] in
/-- A device's semaphores at zero are its five cells at zero. -/
theorem sems_zero (c : Dev nD) :
    (bigSep Finset.univ fun k : Cell => semVal (cell c k) 0 : sProp 𝕄) = iprop(unscopedSems0 c ∗ own0 c) := by
  have hu : (unscopedSems0 c : sProp 𝕄) = semVal (cell c none) 0 := by
    unfold unscopedSems0
    rw [bigSep_eq_bigSepL_of_eq [SemLoc.reg barS] (by decide) (by decide)]
    rfl
  unfold own0
  rw [hu, Pipeline.ownSems0_eq_of_list c osem [(false, 0), (false, 1), (true, 0), (true, 1)] (by decide) (by decide), bigSep_cells]
  rfl

/-! ## The ghost state minted and dealt -/

def allCells : Finset (GSem nD τ sig) := Finset.univ.map ⟨_, cell_injective⟩

/-- The payment of each cell, as a token. -/
def tokenOf (ck : Dev nD × Cell) : GSem nD τ sig × ℕ × Unit := (cell ck.1 ck.2, 0, ())

theorem tokenOf_injective : Function.Injective tokenOf := fun _ _ h => cell_injective (congrArg Prod.fst h)

def allTokens : Finset (GSem nD τ sig × ℕ × Unit) := Finset.univ.map ⟨_, tokenOf_injective⟩

def u₀ : UU :=
  (initOf (Pipeline.cells cfgs cellOf_inj) (Pipeline.launchToks cfgs cellOf_inj), initOf allCells allTokens)

/-- One conjunct for every cell of a device. -/
abbrev each (c : Dev nD) (Φ : GSem nD τ sig → sProp 𝕄) : sProp 𝕄 := bigSep Finset.univ fun k : Cell => Φ (cell c k)

/-- What is minted for a device. -/
def G (c : Dev nD) : sProp 𝕄 :=
  iprop(each c (fun g => roundState EX (sched m) g 0) ∗ each c (fun g => atPos EX g 0 ∅ 0)
    ∗ each c (fun g => reached EX g 0) ∗ each c (fun g => dutyTok EX g 0 ()))

/-- What it is made into. -/
def G' (c : Dev nD) : sProp 𝕄 := iprop(∃ K, records m K ∗ dealt c)

theorem mint : BI.own (EX (initOf allCells allTokens)) ⊢ (|==> bigSep Finset.univ (G m) : sProp 𝕄) := by
  have hC (Φ : GSem nD τ sig → sProp 𝕄) : bigSep allCells Φ = bigSep Finset.univ fun c : Dev nD => each c Φ := by
    unfold allCells; rw [bigSep_map, bigSep_univ_prod]; rfl
  have hT : bigSep allTokens (fun x => (dutyTok EX x.1 x.2.1 x.2.2 : sProp 𝕄)) = bigSep Finset.univ fun c : Dev nD => each c fun g => dutyTok EX g 0 () := by
    unfold allTokens; rw [bigSep_map, bigSep_univ_prod]; rfl
  iintro HX
  imod (Rounds.fund EX (sched m) allCells allTokens) $$ HX with ⟨Hst, Hr, Hat, Htok⟩
  imodintro
  ihave Hst := (Entails.of_eq (hC _)) $$ Hst
  ihave Hat := (Entails.of_eq (hC _)) $$ Hat
  ihave Hr := (Entails.of_eq (hC _)) $$ Hr
  ihave Htok := (Entails.of_eq hT) $$ Htok
  unfold G
  simp only [bigSep_sep']
  isplitl [Hst]; · iexact Hst
  isplitl [Hat]; · iexact Hat
  isplitl [Hr] <;> iassumption

/-- A device's cells become invariants. -/
theorem allocate (c : Dev nD) :
    iprop(own0 c ∗ unscopedSems0 c ∗ G m c)
      ⊢ |={Set.univ}=> iprop((each c fun g => iprop(∃ κ : ℕ, cellInv EX (sched m) κ g))
          ∗ each c (fun g => atPos EX g 0 ∅ 0) ∗ each c (fun g => reached EX g 0) ∗ each c (fun g => dutyTok EX g 0 ())) := by
  unfold G
  iintro ⟨Hos, Hus, Hst, Hrest⟩
  ihave Hv := (Entails.of_eq (sems_zero (F := F) c).symm) $$ [Hos Hus]
  · isplitl [Hus] <;> iassumption
  imod (show iprop((bigSep Finset.univ fun k : Cell => semVal (cell c k) 0) ∗ each c (fun g => roundState EX (sched m) g 0))
      ⊢ (|={Set.univ}=> each c fun g => iprop(∃ κ : ℕ, cellInv EX (sched m) κ g) : sProp 𝕄) from by
        rw [← bigSep_sep']
        exact (bigSep_mono fun k _ => (Rounds.body_intro EX (sched m) (cell c k)).trans inv_alloc).trans (bigSep_fupd _ _)) $$ [Hv Hst] with Hinv
  · isplitl [Hv] <;> iassumption
  imodintro
  isplitl [Hinv] <;> iassumption

/-- Each cell, with the device that pays its namesake moved to its payee. -/
def redeal : Dev nD × Cell ≃ Dev nD × Cell where
  toFun ck := (payee ck.2 ck.1, ck.2)
  invFun ck := ((payee ck.2).symm ck.1, ck.2)
  left_inv ck := by simp
  right_inv ck := by simp

/-- Everything regrouped: the records are for all, the rest is dealt by devices. -/
theorem regroup :
    (bigSep Finset.univ fun c : Dev nD => iprop((each c fun g => iprop(∃ κ : ℕ, cellInv EX (sched m) κ g))
          ∗ each c (fun g => atPos EX g 0 ∅ 0) ∗ each c (fun g => reached EX g 0) ∗ each c (fun g => dutyTok EX g 0 ())) : sProp 𝕄)
      ⊢ bigSep Finset.univ (G' m) := by
  have hflat (Φ : GSem nD τ sig → sProp 𝕄) : (bigSep Finset.univ fun c : Dev nD => each c Φ) = bigSep Finset.univ fun ck : Dev nD × Cell => Φ (cell ck.1 ck.2) :=
    (bigSep_univ_prod (fun ck : Dev nD × Cell => Φ (cell ck.1 ck.2))).symm
  have htok : (bigSep Finset.univ fun c : Dev nD => each c (fun g => (dutyTok EX g 0 () : sProp 𝕄)))
      = bigSep Finset.univ fun c : Dev nD => bigSep Finset.univ fun k : Cell => dutyTok EX (cell (payee k c) k) 0 () := by
    rw [hflat, bigSep_univ_equiv redeal (fun ck : Dev nD × Cell => (dutyTok EX (cell ck.1 ck.2) 0 () : sProp 𝕄)), bigSep_univ_prod]
    rfl
  rw [bigSep_sep', bigSep_sep', bigSep_sep', htok, hflat, hflat (fun g => reached EX g 0)]
  iintro ⟨HI, Hat, #HR, Htok⟩
  ihave HK := (BI.bigSep_exists_pi Finset.univ (fun (ck : Dev nD × Cell) (κ : ℕ) => (cellInv EX (sched m) κ (cell ck.1 ck.2) : sProp 𝕄))) $$ HI
  icases HK with ⟨%K, #HI⟩
  iapply (BI.bigSep_with_persistent (R := records m K) (Φ := dealt) fun c _ => (show iprop(records m K ∗ dealt c) ⊢ G' m c from by
    unfold G'
    iintro H
    iexists K
    iexact H))
  isplitr
  · unfold records
    rw [bigSep_sep']
    isplitl <;> iassumption
  · unfold dealt
    rw [bigSep_sep']
    isplitl [Hat] <;> iassumption

/-- All devices at once. -/
theorem glob : (bigSep Finset.univ fun c => iprop(own0 c ∗ unscopedSems0 c ∗ G m c) : sProp 𝕄) ⊢ |={Set.univ}=> bigSep Finset.univ (G' m) :=
  ((bigSep_mono fun c _ => allocate m c).trans (bigSep_fupd _ _)).trans (BI.fupd_mono (regroup m))

/-! ## The credit the launch gives -/

/-- What device `d` owes a cell of `c`'s that is not a departure: all of it if `d` is the partner, else nothing. -/
theorem owed_cell (d c : Dev nD) (k : Cell) (hk : k = none ∨ ∃ i, k = some (true, i)) :
    O₀ d (cell c k) () = if d = peer c then units k else 0 := by
  have hd : Iff (c = peer d) (d = peer c) := ⟨fun h => by rw [h, peer_involutive _], fun h => by rw [h, peer_involutive _]⟩
  unfold O₀ O₁ O₂
  rw [Pi.add_apply, Finsupp.add_apply, Pi.add_apply, Finsupp.add_apply, owe_apply, owe_apply, owe_apply]
  simp only [hd]
  by_cases h : d = peer c
  · rcases hk with rfl | ⟨i, rfl⟩
    · simp [h]
    · fin_cases i <;> simp [h, units]
  · simp [h]

theorem credit_cell (c : Dev nD) (k : Cell) (hk : k = none ∨ ∃ i, k = some (true, i)) :
    tallyOn (cell c k) (launchCredit (Pipeline.owing O₀) 0 (cell c k)) = (tallyAt (cell c k) () (units k) : CellTallies nD τ sig Unit) := by
  unfold tallyAt
  refine congrArg _ (Finsupp.ext fun u => ?_)
  cases u
  rw [Pipeline.launchCredit_owing, Finsupp.single_eq_same, Finset.sum_congr rfl fun d _ => owed_cell d c k hk,
    Finset.sum_ite_eq' Finset.univ (peer c) fun _ => units k, if_pos (Finset.mem_univ _)]

omit [FloatOps F] in
theorem credits (c : Dev nD) :
    (Pipeline.launchCred O₀ c : sProp 𝕄)
      ⊢ iprop(cred (tallyAt (cell c none) () 1) ∗ cred (tallyAt (cell c (some (true, 0))) () N) ∗ cred (tallyAt (cell c (some (true, 1))) () N)) := by
  have h : iprop(cred (tallyAt (cell c none) () 1) ∗ cred (tallyAt (cell c (some (true, 0))) () N) ∗ cred (tallyAt (cell c (some (true, 1))) () N))
      = (bigSep [csem none, csem (some (true, 0)), csem (some (true, 1))].toFinset
          fun s => cred (tallyOn ((c : Thread nD τ), s) (launchCredit (Pipeline.owing O₀) 0 ((c : Thread nD τ), s))) : sProp 𝕄) := by
    rw [bigSep_eq_bigSepL_of_eq [csem none, csem (some (true, 0)), csem (some (true, 1))] rfl (by decide), bigSepL_cons_cons, bigSepL_cons_cons, bigSepL_singleton,
      credit_cell c none (.inl rfl), credit_cell c (some (true, 0)) (.inr ⟨0, rfl⟩), credit_cell c (some (true, 1)) (.inr ⟨1, rfl⟩)]
    rfl
  rw [h]
  exact bigSep_subset (Finset.subset_univ _)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, HG⟩
  ihave Hc := (credits (F := F) c) $$ Hcr
  imodintro
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem leave (c : Dev nD) :
    (dats m ρ 0 c).Φ (Fin.last cfg0.N) ⊢ iprop(unscopedSems0 c ∗ own0 c ∗ Pipeline.scopedRest cfg0.spec c) := by
  rw [show (dats m ρ 0 c).Φ (Fin.last cfg0.N) = Φ₁ c from rfl, scopedRest0_eq]
  unfold Φ₁ scratch
  rw [sems_zero]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    may_wait_staging c _ (by fin_cases w <;> fin_cases s <;> decide) _ (by
      rcases t with ⟨_ | _, ht⟩
      · exact Or.inl rfl
      · exact Or.inr rfl)

theorem share_full (c : Dev nD) (w : Fin cfg0.W) : (dats m ρ 0 c).share w = fullShare := by unfold Dat.share; split <;> rfl

/-- What a window's array holds in the end. -/
def final (c : Dev nD) (w : Fin cfg0.W) : Buf (Elt F) ((cfg0.win w).arr.view.loc (c : Thread nD τ)) := (dats m ρ 0 c).arrAt w cfg0.N

def Ends (r : PUnit × MemSt nD τ sig (Elt F)) : Prop :=
  ∀ c : Dev nD, ∀ w : Fin cfg0.W, r.2.mem ((cfg0.win w).arr.view.loc (c : Thread nD τ)) = final m ρ c w

set_option maxRecDepth 8000 in
/-- Every run ends, with each window's array as `final` says and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it was. -/
theorem final_arg (c : Dev nD) : final m ρ c (0 : Fin 2) = m ((c : Thread nD τ).loc main_arg0) :=
  (dats (F := F) m ρ 0 c).arrAt_in (0 : Fin 2) rfl _

end Cert.KernelIdeal.Exchange

end
-- ==== Proof.Value.lean ====
/-
# What a device computes is its block of the sum over the devices
-/
module

public import proofs.«01_k».proof.Defs
public import proofs.«01_k».proof.Proof.LaunchKernelIdeal
public import proofs.«01_k».proof.Proof.Gen.ReferenceIdeal
public import proofs.«01_k».proof.Proof.Gen.ReferenceIdeal.Run
public import Idealize.ShloMosaic.Lib.Pipeline.ValueKit
public import Idealize.ShloMosaic.Lib.IdealHost
public import Idealize.ShloMosaic.Lib.ValueIdx
public import Idealize.ShloMosaic.Lib.Layout
public import Idealize.ShloMosaic.Lib.LayoutAt

@[expose] public section

noncomputable section

namespace Cert.KernelIdeal.Exchange

open Cert.KernelIdeal Cert.KernelIdeal.Gen
open Idealize.ShloMosaic
open Idealize.ShloMosaic.TcCoe
open Idealize.SL.Sem
open Idealize.ShloMosaic.Pipeline (Dat)

section Ends

variable {F : FTy → Type} [FloatOps F]
variable (m : (ℓ : Loc nD τ sig) → Buf (Elt F) ℓ) (ρ : Dev nD → PrngReg)

/-- The one point's block of the argument is the whole argument. -/
theorem xs_eq (c : Dev nD) : xs m c = m ((c : Thread nD τ).loc main_arg0) := by
  funext i
  unfold xs
  show m ((c : Thread nD τ).loc main_arg0) _ = _
  congr 1
  funext a
  apply Fin.ext
  have h : ∀ b : Fin 3, win0_0.index (0 : Fin 1) b = 0 := by decide
  fin_cases a <;> simp [View.emb, h]

/-- The result ends holding `outAt`. -/
theorem final_result (c : Dev nD) : final m ρ c (1 : Fin 2) = outAt m c :=
  (dats (F := F) m ρ 0 c).arrAt_eq_of_after_last (1 : Fin 2) t0_0 (by decide +kernel) (outAt m c) fun j => by
    blk_simp
    rfl

end Ends

/-! ## Where entries lie in the whole arrays -/

/-- Entry `i` of block `w` of columns, in slice `d` of the whole argument. -/
def spot (d w : Fin 2) (i : S256x256.Idx) : Shape.Idx ⟨3, ![2, 256, 512]⟩ := fun a => match a with
  | ⟨0, _⟩ => (⟨d.val, d.isLt⟩ : Fin 2)
  | ⟨1, _⟩ => (⟨(i 0).val, (i 0).isLt⟩ : Fin 256)
  | ⟨2, _⟩ => (⟨256 * w.val + (i 1).val, by have h : (i 1).val < 256 := (i 1).isLt; have := w.isLt; omega⟩ : Fin 512)

/-- Which part of the argument a device holds: slice `col c`, whole along the other two axes. -/
abbrev argPart (c : Dev nD) := Layout.meshBlock [2, 2] (![[1], [], []] : Fin 3 → List ℕ) c

theorem argPart_val : ∀ c : Dev nD, ((argPart c 0).val = (col c).val) ∧ ((argPart c 1).val = 0) ∧ ((argPart c 2).val = 0) := by decide

/-- Which part of the result a device holds: block `col c` of the columns, with all the rows. -/
abbrev resPart (c : Dev nD) := Layout.meshBlock [2, 2] (![[], [1]] : Fin 2 → List ℕ) c

theorem resPart_val : ∀ c : Dev nD, ((resPart c 0).val = 0) ∧ ((resPart c 1).val = (col c).val) := by decide

/-- Where the device's entries lie in the whole argument. -/
theorem arg_spot (c : Dev nD) (w : Fin 2) (i : S256x256.Idx) (h : Layout.TilesN ⟨3, ![1, 256, 512]⟩ ⟨3, ![2, 256, 512]⟩ _) :
    h.idx (argPart c) (colIdx w i) = spot (col c) w i := by
  obtain ⟨h0, h1, h2⟩ := argPart_val c
  funext a
  apply Fin.ext
  fin_cases a
  · show (argPart c 0).val * 1 + 0 = (col c).val
    omega
  · show (argPart c 1).val * 256 + (i 0).val = (i 0).val
    omega
  · show (argPart c 2).val * 512 + (256 * w.val + (i 1).val) = 256 * w.val + (i 1).val
    omega

/-! ## The reference -/

/-- The reference's result: its term over the whole argument. -/
abbrev total (X : FVec Ideal ⟨3, ![2, 256, 512]⟩ .bf16) : FVec Ideal ⟨2, ![256, 512]⟩ .f32 :=
  extf .f32 (truncf .bf16 (Host.reduceAdd (extf .f32 X Cert.ReferenceIdeal.Gen.facts.bitsLt_bf16_f32) (constant Cert.ReferenceIdeal.S_ .f32 0x00000000#32)
    Cert.ReferenceIdeal.Gen.facts.reducesTo_S2x256x512_S256x512_d0 Cert.ReferenceIdeal.Gen.facts.h_S_) Cert.ReferenceIdeal.Gen.facts.bitsLt_bf16_f32) Cert.ReferenceIdeal.Gen.facts.bitsLt_bf16_f32

/-- At each entry of a device's block, the reference's result is the sum of the two slices there. -/
theorem total_at (X : FVec Ideal ⟨3, ![2, 256, 512]⟩ .bf16) (c : Dev nD) (i : S256x256.Idx) (h : Layout.TilesN ⟨2, ![256, 256]⟩ ⟨2, ![256, 512]⟩ _) :
    total X (h.idx (resPart c) i) = (X (spot 0 (col c) i) + X (spot 1 (col c) i) : EReal) := by
  have hr : Shape.Reduces ⟨3, ![2, 256, 512]⟩ [0] ⟨2, ![256, 512]⟩ := by decide
  have hl : ∀ d : Fin 2, hr.lift (h.idx (resPart c) i) d = spot d (col c) i := fun d => by
    obtain ⟨h0, h1⟩ := resPart_val c
    funext a
    apply Fin.ext
    fin_cases a
    · rfl
    · show (resPart c 0).val * 256 + (i 0).val = (i 0).val
      omega
    · show (resPart c 1).val * 256 + (i 1).val = 256 * (col c).val + (i 1).val
      omega
  show Ideal.hostReduceAdd Cert.ReferenceIdeal.Gen.facts.reducesTo_S2x256x512_S256x512_d0 X (Ideal.ofBits .f32 0x00000000#32) _ = _
  rw [Ideal.hostReduceAdd_single _ hr, Ideal.ofBits_zero_f32, zero_add]
  exact (Fin.sum_univ_two _).trans (congrArg₂ (fun a b => (X a + X b : EReal)) (hl 0) (hl 1))

/-! ## The kernel -/

variable (m : (ℓ : Loc nD τ sig) → Buf (Elt Ideal) ℓ)

/-- A device's result is its block of the reference's, for arguments cut from one whole array. -/
theorem outAt_eq (X : FVec Ideal ⟨3, ![2, 256, 512]⟩ .bf16)
    (hm : ∀ c : Dev nD, m ((c.tc : Thread nD τ).loc main_arg0) = Layout.blockN ⟨3, ![1, 256, 512]⟩ ⟨3, ![2, 256, 512]⟩ (argPart c) X)
    (c : Dev nD) : outAt m c = Layout.blockN ⟨2, ![256, 256]⟩ ⟨2, ![256, 512]⟩ (resPart c) (total X) := by
  have hcols : ∀ (d : Dev nD) (w : Fin 2) (i : S256x256.Idx), cols m d w i = X (spot (col d) w i) := fun d w i => by
    unfold cols
    rw [xs_eq, hm d]
    exact congrArg X (arg_spot d w i _)
  funext i
  refine Eq.trans ?_ (total_at X c i (by decide)).symm
  refine (show outAt m c i = (cols m c (col c) i + cols m (peer c) (col (peer (peer c))) i : EReal) from rfl).trans ?_
  rw [peer_involutive _, hcols, hcols]
  obtain ⟨h0, h1⟩ | ⟨h0, h1⟩ : col c = 0 ∧ col (peer c) = 1 ∨ col c = 1 ∧ col (peer c) = 0 := by revert c; decide
  · rw [h0, h1]
  · rw [h0, h1]; exact add_comm _ _

end Cert.KernelIdeal.Exchange

end
-- ==== Proof.lean ====
/-
# The certificate of the two-device reduce-scatter

The run of the kernel, with what each array holds when it ends, is in `Proof/LaunchKernel.lean` (as printed) and
`Proof/LaunchKernelIdeal.lean` (over the extended reals); that a device's result is its block of the reference's is
in `Proof/Value.lean`. Here each claim is read off those.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.LaunchKernel
public import proofs.«01_k».proof.Proof.LaunchKernelIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed: it ends, its argument unchanged and every semaphore at zero. -/
theorem frame_kernel : Cert.quiescent_Kernel := fun m g _ =>
  (θ_run _ _ _).mono (fun _ h => ⟨fun c => (h.1 c (0 : Fin 2)).trans (Cert.Kernel.Exchange.final_arg m g c), h.2⟩)
    (Cert.Kernel.Exchange.run_main (F := Bits) m g)

/-- The same over the extended reals. -/
theorem frame_ideal : Cert.quiescent_KernelIdeal := fun m g _ =>
  (θ_run _ _ _).mono (fun _ h => ⟨fun c => (h.1 c (0 : Fin 2)).trans (Cert.KernelIdeal.Exchange.final_arg m g c), h.2⟩)
    (Cert.KernelIdeal.Exchange.run_main (F := Ideal) m g)

/-- The reference declares no semaphore. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- Each device's result is its block of columns of the reference's. -/
theorem sums : Cert.algebraic_KernelIdeal_ReferenceIdeal := fun m g m' g' _ hm =>
  ⟨Cert.KernelIdeal.Exchange.total (m' ((0 : Dev Cert.ReferenceIdeal.nD).tc.loc Cert.ReferenceIdeal.main_arg0)),
    (θ_run _ _ _).mono (fun _ h c =>
        ⟨((h.1 c (1 : Fin 2)).trans (Cert.KernelIdeal.Exchange.final_result m g c)).trans (Cert.KernelIdeal.Exchange.outAt_eq m _ hm c),
          (h.1 c (0 : Fin 2)).trans (Cert.KernelIdeal.Exchange.final_arg m g c)⟩)
      (Cert.KernelIdeal.Exchange.run_main (F := Ideal) m g),
    (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, sums⟩

end Cert.Proof

end
